-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x3584 : Shape := ⟨3, ![4, 8192, 3584]⟩
abbrev S4x8192x1 : Shape := ⟨3, ![4, 8192, 1]⟩
abbrev S3584x4736 : Shape := ⟨2, ![3584, 4736]⟩
abbrev S4736 : Shape := ⟨1, ![4736]⟩
abbrev S32768x3584 : Shape := ⟨2, ![32768, 3584]⟩
abbrev S32x1x1024 : Shape := ⟨3, ![32, 1, 1024]⟩
abbrev S32768x4736 : Shape := ⟨2, ![32768, 4736]⟩
abbrev S1024x3584 : Shape := ⟨2, ![1024, 3584]⟩
abbrev S1x1x1024 : Shape := ⟨3, ![1, 1, 1024]⟩
abbrev S1024x4736 : Shape := ⟨2, ![1024, 4736]⟩
abbrev S1x1024 : Shape := ⟨2, ![1, 1024]⟩
abbrev S1024x1 : Shape := ⟨2, ![1024, 1]⟩
abbrev S1x4736 : Shape := ⟨2, ![1, 4736]⟩
abbrev S4x8192x4736 : Shape := ⟨3, ![4, 8192, 4736]⟩

abbrev nBuf : Space → Nat
  | .hbm => 8
  | .vmem => 8
  | .smem => 0
  | _ => 0

abbrev bufTy : (tb : Table) → Fin (tcTables nBuf tb) → BufTy
  | .hbm, ⟨0, _⟩ => ⟨S4x8192x3584, .fp8e4m3⟩
  | .hbm, ⟨1, _⟩ => ⟨S4x8192x1, .f32⟩
  | .hbm, ⟨2, _⟩ => ⟨S3584x4736, .fp8e4m3⟩
  | .hbm, ⟨3, _⟩ => ⟨S4736, .f32⟩
  | .hbm, ⟨4, _⟩ => ⟨S32768x3584, .fp8e4m3⟩
  | .hbm, ⟨5, _⟩ => ⟨S32x1x1024, .f32⟩
  | .hbm, ⟨6, _⟩ => ⟨S32768x4736, .bf16⟩
  | .hbm, ⟨7, _⟩ => ⟨S4x8192x4736, .bf16⟩
  | .local _ .vmem, ⟨0, _⟩ => ⟨S1024x3584, .fp8e4m3⟩
  | .local _ .vmem, ⟨1, _⟩ => ⟨S1024x3584, .fp8e4m3⟩
  | .local _ .vmem, ⟨2, _⟩ => ⟨S1x1x1024, .f32⟩
  | .local _ .vmem, ⟨3, _⟩ => ⟨S1x1x1024, .f32⟩
  | .local _ .vmem, ⟨4, _⟩ => ⟨S3584x4736, .fp8e4m3⟩
  | .local _ .vmem, ⟨5, _⟩ => ⟨S4736, .f32⟩
  | .local _ .vmem, ⟨6, _⟩ => ⟨S1024x4736, .bf16⟩
  | .local _ .vmem, ⟨7, _⟩ => ⟨S1024x4736, .bf16⟩
  | _, _ => ⟨S4x8192x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3584x4736 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4736 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x4736 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x8192x3584 : Shape := ⟨3, ![4, 8192, 3584]⟩
abbrev S4x8192x1 : Shape := ⟨3, ![4, 8192, 1]⟩
abbrev S3584x4736 : Shape := ⟨2, ![3584, 4736]⟩
abbrev S4736 : Shape := ⟨1, ![4736]⟩
abbrev S4x8192x4736 : Shape := ⟨3, ![4, 8192, 4736]⟩
abbrev S1x1x4736 : Shape := ⟨3, ![1, 1, 4736]⟩

abbrev nBuf : Space → Nat
  | .hbm => 5
  | .vmem => 5
  | .smem => 0
  | _ => 0

abbrev bufTy : (tb : Table) → Fin (tcTables nBuf tb) → BufTy
  | .hbm, ⟨0, _⟩ => ⟨S4x8192x3584, .fp8e4m3⟩
  | .hbm, ⟨1, _⟩ => ⟨S4x8192x1, .f32⟩
  | .hbm, ⟨2, _⟩ => ⟨S3584x4736, .fp8e4m3⟩
  | .hbm, ⟨3, _⟩ => ⟨S4736, .f32⟩
  | .hbm, ⟨4, _⟩ => ⟨S4x8192x4736, .bf16⟩
  | .local _ .vmem, ⟨0, _⟩ => ⟨S4x8192x3584, .fp8e4m3⟩
  | .local _ .vmem, ⟨1, _⟩ => ⟨S4x8192x1, .f32⟩
  | .local _ .vmem, ⟨2, _⟩ => ⟨S3584x4736, .fp8e4m3⟩
  | .local _ .vmem, ⟨3, _⟩ => ⟨S4736, .f32⟩
  | .local _ .vmem, ⟨4, _⟩ => ⟨S4x8192x4736, .bf16⟩
  | _, _ => ⟨S4x8192x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4x8192x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x4736 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4736 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8192x4736 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Pay.lean ====
/-
  What one run of each kernel body computes, element by element, over the extended reals.
-/
module

public import proofs.«01_k».proof.Proof.Gen.KernelIdeal.Skeleton
public import proofs.«01_k».proof.Proof.Gen.ReferenceIdeal.Skeleton
public import Idealize.ShloMosaic.Lib.Pointwise

@[expose] public section

noncomputable section

namespace Cert.Proof

open Idealize.ShloMosaic Idealize.SL.Sem

/-- One block of the kernel, read at token row `r` of the block and output channel `n`: the product of the row with the
    channel's column of weights, times the row's scale, times the channel's scale. -/
theorem kernel_pay_apply (xs : Vec Ideal Cert.KernelIdeal.S1x1x1024 .f32)
    (x : Vec Ideal Cert.KernelIdeal.S1024x3584 .fp8e4m3) (w : Vec Ideal Cert.KernelIdeal.S3584x4736 .fp8e4m3)
    (ws : Vec Ideal Cert.KernelIdeal.S4736 .f32) (r : Fin 1024) (n : Fin 4736) :
    Cert.KernelIdeal.Gen.k0_pay1 (F := Ideal) xs x w ws (ix2 r n)
      = (∑ k : Fin 3584, x (ix2 r k) * w (ix2 k n)) * xs (ix3 0 0 r) * ws (ix1 n) := by
  pointwise [Cert.KernelIdeal.Gen.k0_pay1]

/-- The reference, read at batch `b`, position `s` and output channel `n`: the product of the token with the channel's
    column of weights, times the token's scale, times the channel's scale. -/
theorem reference_pay_apply (x : Vec Ideal Cert.ReferenceIdeal.S4x8192x3584 .fp8e4m3)
    (w : Vec Ideal Cert.ReferenceIdeal.S3584x4736 .fp8e4m3) (xs : Vec Ideal Cert.ReferenceIdeal.S4x8192x1 .f32)
    (ws : Vec Ideal Cert.ReferenceIdeal.S4736 .f32) (b : Fin 4) (s : Fin 8192) (n : Fin 4736) :
    Cert.ReferenceIdeal.Gen.k0_pay1 (F := Ideal) x w xs ws (ix3 b s n)
      = (∑ k : Fin 3584, x (ix3 b s k) * w (ix2 k n)) * xs (ix3 b s 0) * ws (ix1 n) := by
  pointwise [Cert.ReferenceIdeal.Gen.k0_pay1]

end Cert.Proof

end
-- ==== Proof.KernelValue.lean ====
/-
  What the kernel's result array holds after the run, over the extended reals.

  The launch has 32 grid points. Point `t` reads the token rows `1024 t … 1024 t + 1023` with their scales, all the
  weights and all the channel scales, and writes the same rows of the result. So the 32 blocks put together are one
  function of the four arrays that the launch is given (`G`), and the program returns that array reshaped (`run`).
-/
module

public import proofs.«01_k».proof.Proof.Pay
public import proofs.«01_k».proof.Proof.Gen.KernelIdeal.Frame
public import Idealize.ShloMosaic.Lib.Pipeline.Value

@[expose] public section

noncomputable section

namespace Cert.Proof.KernelValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## What one grid point computes -/

/-- The array that the launch computes, index by index: row `i 0` of the tokens against column `i 1` of the weights, times
    the row's scale (the scales come as 32 rows of 1024), times the column's scale. -/
def G (x : Vec Ideal S32768x3584 .fp8e4m3) (xs : Vec Ideal S32x1x1024 .f32) (w : Vec Ideal S3584x4736 .fp8e4m3)
    (ws : Vec Ideal S4736 .f32) : Vec Ideal S32768x4736 .bf16 := fun i =>
  (∑ k : Fin 3584, x (ix2 (n0 := 32768) (i 0) k) * w (ix2 (n1 := 4736) k (i 1)))
    * xs (ix3 ⟨(i 0).val / 1024, by have : (i 0).val < 32768 := (i 0).isLt; omega⟩ (0 : Fin 1)
        ⟨(i 0).val % 1024, Nat.mod_lt _ (by decide)⟩)
    * ws (ix1 (n0 := 4736) (i 1))

/-- The body's loads read whole blocks and its one store leaves its payload. -/
theorem out_eq (x0 : Vec Ideal S1024x3584 .fp8e4m3) (x1 : Vec Ideal S1x1x1024 .f32)
    (x2 : Vec Ideal S3584x4736 .fp8e4m3) (x3 : Vec Ideal S4736 .f32) :
    out0_4 x0 x1 x2 x3 = k0_pay1 x1 x0 x2 x3 := by
  have hz3 : (![0, 0, 0] : Fin 3 → Nat) = fun _ => 0 := funext fun a => by fin_cases a <;> rfl
  have hz2 : (![0, 0] : Fin 2 → Nat) = fun _ => 0 := funext fun a => by fin_cases a <;> rfl
  have hz1 : (![0] : Fin 1 → Nat) = fun _ => 0 := funext fun a => by fin_cases a <;> rfl
  unfold out0_4
  rw [View.canon_unit_zero hz2, View.ld_unit_zero (S := S1x1x1024) hz3 _ x1,
    View.ld_unit_zero (S := S1024x3584) hz2 _ x0, View.ld_unit_zero (S := S3584x4736) hz2 _ x2,
    View.ld_unit_zero (S := S4736) hz1 _ x3]

/-! ## Where each block lies in its array -/

/-- Block indices at point `t`: the token rows, their scales and the result move with `t`, the weights and the channel
    scales stay. -/
theorem idx_facts : ∀ t : Fin cfg0.N,
    (win0_0.index t (0 : Fin 2) = t.val ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ win0_3.index t (0 : Fin 1) = 0
    ∧ (win0_4.index t (0 : Fin 2) = t.val ∧ win0_4.index t (1 : Fin 2) = 0) :=
  (by decide +kernel : ∀ t : Fin grid0.N, _)

/-- There are 32 grid points. -/
theorem t_lt (t : Fin cfg0.N) : t.val < 32 := N_0 ▸ t.isLt

/-- Row `r` of point `t`'s block of token rows is row `1024 t + r` of the array. -/
theorem emb0 (t : Fin cfg0.N) (r : Fin 1024) (k : Fin 3584) :
    ((cfg0.win 0).blk t).view.emb (ix2 r k)
      = ix2 (⟨t.val * 1024 + r.val, by have := t_lt t; omega⟩ : Fin 32768) k := by
  obtain ⟨⟨e0, e1⟩, -⟩ := idx_facts t
  funext a; apply Fin.ext
  match a with
  | ⟨0, _⟩ => show win0_0.index t (0 : Fin 2) * 1024 + 1 * r.val = t.val * 1024 + r.val; omega
  | ⟨1, _⟩ => show win0_0.index t (1 : Fin 2) * 3584 + 1 * k.val = k.val; omega

/-- Point `t`'s block of token scales is row `t` of the array. -/
theorem emb1 (t : Fin cfg0.N) (r : Fin 1024) :
    ((cfg0.win 1).blk t).view.emb (ix3 (0 : Fin 1) (0 : Fin 1) r) = ix3 (⟨t.val, t_lt t⟩ : Fin 32) (0 : Fin 1) r := by
  obtain ⟨-, ⟨e0, e1, e2⟩, -⟩ := idx_facts t
  funext a; apply Fin.ext
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 1024 + 1 * r.val = r.val; omega

/-- The block of weights is the whole array. -/
theorem emb2 (t : Fin cfg0.N) (k : Fin 3584) (n : Fin 4736) :
    ((cfg0.win 2).blk t).view.emb (ix2 k n) = ix2 k n := by
  obtain ⟨-, -, ⟨e0, e1⟩, -⟩ := idx_facts t
  funext a; apply Fin.ext
  match a with
  | ⟨0, _⟩ => show win0_2.index t (0 : Fin 2) * 3584 + 1 * k.val = k.val; omega
  | ⟨1, _⟩ => show win0_2.index t (1 : Fin 2) * 4736 + 1 * n.val = n.val; omega

/-- The block of channel scales is the whole array. -/
theorem emb3 (t : Fin cfg0.N) (n : Fin 4736) : ((cfg0.win 3).blk t).view.emb (ix1 n) = ix1 n := by
  obtain ⟨-, -, -, e0, -⟩ := idx_facts t
  funext a; apply Fin.ext
  match a with
  | ⟨0, _⟩ => show win0_3.index t (0 : Fin 1) * 4736 + 1 * n.val = n.val; omega

/-- Row `r` of point `t`'s block of the result is row `1024 t + r` of the array. -/
theorem emb4 (t : Fin cfg0.N) (r : Fin 1024) (n : Fin 4736) :
    ((cfg0.win 4).blk t).view.emb (ix2 r n)
      = ix2 (⟨t.val * 1024 + r.val, by have := t_lt t; omega⟩ : Fin 32768) n := by
  obtain ⟨-, -, -, -, e0, e1⟩ := idx_facts t
  funext a; apply Fin.ext
  match a with
  | ⟨0, _⟩ => show win0_4.index t (0 : Fin 2) * 1024 + 1 * r.val = t.val * 1024 + r.val; omega
  | ⟨1, _⟩ => show win0_4.index t (1 : Fin 2) * 4736 + 1 * n.val = n.val; omega

/-! ## The array after the launch -/

/-- What point `t` writes back is its block of `G` of the four arrays that the launch is given. -/
theorem flushed_eq (c : Dev nD) (t : Fin cfg0.N) :
    (dats m 0 c).flushed 4 t = ((cfg0.win 4).blk t).view.read (Elt Ideal)
      (G (V m c main_v0) (V m c main_v1) (V m c main_arg2) (V m c main_arg3)) := by
  show (cfg0.win 4).cut (grid0.coords t) ((dats m 0 c).after 4 t) = _
  rw [after0_4, out_eq]
  funext j
  obtain ⟨r, n, rfl⟩ : ∃ (r : Fin 1024) (n : Fin 4736), j = ix2 r n := ⟨j 0, j 1, eq_ix2 j⟩
  show k0_pay1 (F := Ideal) (iblk m c 1 t) (iblk m c 0 t) (iblk m c 2 t) (iblk m c 3 t) (ix2 r n)
    = G (V m c main_v0) (V m c main_v1) (V m c main_arg2) (V m c main_arg3) (((cfg0.win 4).blk t).view.emb (ix2 r n))
  rw [kernel_pay_apply, emb4]
  have ht := t_lt t
  have h0 : ∀ k : Fin 3584, iblk m c 0 t (ix2 r k)
      = V m c main_v0 (ix2 (⟨t.val * 1024 + r.val, by omega⟩ : Fin 32768) k) := fun k =>
    congrArg (V m c main_v0) (emb0 t r k)
  have h1 : iblk m c 1 t (ix3 (0 : Fin 1) (0 : Fin 1) r) = V m c main_v1 (ix3 (⟨t.val, ht⟩ : Fin 32) (0 : Fin 1) r) :=
    congrArg (V m c main_v1) (emb1 t r)
  have h2 : ∀ k : Fin 3584, iblk m c 2 t (ix2 k n) = V m c main_arg2 (ix2 k n) := fun k =>
    congrArg (V m c main_arg2) (emb2 t k n)
  have h3 : iblk m c 3 t (ix1 n) = V m c main_arg3 (ix1 n) := congrArg (V m c main_arg3) (emb3 t n)
  have hd : (t.val * 1024 + r.val) / 1024 = t.val := by omega
  have hr : (t.val * 1024 + r.val) % 1024 = r.val := by omega
  simp only [h0, h1, h2, h3]
  unfold G
  simp only [ix2_0, ix2_1, hd, hr]

/-- Every index of the result lies in the block of some grid point. -/
theorem covered (i : S32768x4736.Idx) :
    ∃ t : Fin cfg0.N, (cfg0.win 4).flush t = true ∧ i ∈ ((cfg0.win 4).blk t).view.set := by
  obtain ⟨a, n, rfl⟩ : ∃ (a : Fin 32768) (n : Fin 4736), i = ix2 a n := ⟨i 0, i 1, eq_ix2 i⟩
  have ht : a.val / 1024 < cfg0.N := by
    have h : cfg0.N = 32 := N_0
    rw [h]; omega
  refine ⟨⟨a.val / 1024, ht⟩, flush0_4 _, ?_⟩
  have h := ((cfg0.win 4).blk (⟨a.val / 1024, ht⟩ : Fin cfg0.N)).view.emb_mem_set
    (ix2 (⟨a.val % 1024, Nat.mod_lt _ (by decide)⟩ : Fin 1024) n)
  rw [emb4] at h
  have e : (⟨a.val / 1024 * 1024 + a.val % 1024, by omega⟩ : Fin 32768) = a := Fin.ext (by show a.val / 1024 * 1024 + a.val % 1024 = a.val; omega)
  simp only [e] at h
  exact h

/-- After the launch the result array is `G` of the four arrays that the launch is given. -/
theorem final (c : Dev nD) : (dats m 0 c).arrAt 4 cfg0.N
    = G (V m c main_v0) (V m c main_v1) (V m c main_arg2) (V m c main_arg3) :=
  (dats m 0 c).arrAt_eq_of_cover 4 _ (fun t _ => flushed_eq m c t) covered

/-! ## The host's reshapes before and after the launch -/

/-- The launch is given the tokens as 32768 rows. -/
theorem V_tokens (c : Dev nD) : V m c main_v0
    = shapeCast S32768x3584 (m ((c : Thread nD τ).loc main_arg0)) shapeCasts_S4x8192x3584_S32768x3584 := by
  show StableHlo.after (List.flatten [hostOps0]) (fun b => m (c, b)) (Proc.devRef .tc main_v0) = _
  simp only [hostOps0, List.flatten_cons, List.flatten_nil, List.append_nil]
  open StableHlo in after_results
  rfl

/-- The launch is given the token scales as 32 rows of 1024. -/
theorem V_scales (c : Dev nD) : V m c main_v1
    = shapeCast S32x1x1024 (m ((c : Thread nD τ).loc main_arg1)) shapeCasts_S4x8192x1_S32x1x1024 := by
  show StableHlo.after (List.flatten [hostOps0]) (fun b => m (c, b)) (Proc.devRef .tc main_v1) = _
  simp only [hostOps0, List.flatten_cons, List.flatten_nil, List.append_nil]
  open StableHlo in after_results
  rfl

/-- The program's result is the launch's result array, reshaped. -/
theorem tail_eq (c : Dev nD) : Pipeline.afterTail₀ cfgs (dats m) 0 (V0 m) [hostOps1] c main_v3
    = shapeCast S4x8192x4736 ((dats m 0 c).arrAt 4 cfg0.N) shapeCasts_S32768x4736_S4x8192x4736 := by
  have h := Pipeline.withArrays_arr spec0 launch0.win.arr_inj c (V0 m c) (fun w => (dats m 0 c).arrAt w cfg0.N) 4
  unfold Pipeline.afterTail₀
  simp only [hostOps1, List.flatten_cons, List.flatten_nil, List.append_nil]
  open StableHlo in after_results
  exact congrArg (fun x => shapeCast S4x8192x4736 x shapeCasts_S32768x4736_S4x8192x4736) h

/-- What the program computes from its four arguments. -/
def result (x : Vec Ideal S4x8192x3584 .fp8e4m3) (xs : Vec Ideal S4x8192x1 .f32) (w : Vec Ideal S3584x4736 .fp8e4m3)
    (ws : Vec Ideal S4736 .f32) : Vec Ideal S4x8192x4736 .bf16 :=
  shapeCast S4x8192x4736 (G (shapeCast S32768x3584 x shapeCasts_S4x8192x3584_S32768x3584)
    (shapeCast S32x1x1024 xs shapeCasts_S4x8192x1_S32x1x1024) w ws) shapeCasts_S32768x4736_S4x8192x4736

/-- The run of the whole program: the result array holds `result` of the arguments, and the arguments are unchanged. -/
theorem run : θ_run defs (onTc (τ := τ) (main (F := Ideal))) ⟨m, fun _ => 0, ρ⟩ fun r => ∀ c : Dev nD,
      r.2.mem ((c : Thread nD τ).loc main_v3)
        = result (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨by
      refine ((h.1 c).2 main_v3 (Pipeline.mem_restRefs_of main_v3 (by decide) (by decide))).trans ?_
      rw [tail_eq, final, V_tokens, V_scales, V_main_arg2, V_main_arg3]
      rfl, h.2 c⟩)
    (θ_run_and (run_main m ρ) (unchanged m ρ))

end Cert.Proof.KernelValue

end
-- ==== Proof.Equation.lean ====
/-
  The kernel and the reference compute one function of the four arguments, over the extended reals.
-/
module

public import proofs.«01_k».proof.Proof.KernelValue

@[expose] public section

noncomputable section

namespace Cert.Proof

open Cert.KernelIdeal Cert.KernelIdeal.Gen Idealize.ShloMosaic Idealize.SL.Sem

/-- Token row `8192 b + s` of the flattened tokens is the token at batch `b` and position `s`. -/
theorem tokens_apply (x : Vec Ideal S4x8192x3584 .fp8e4m3) (b : Fin 4) (s : Fin 8192) (k : Fin 3584) :
    shapeCast S32768x3584 x shapeCasts_S4x8192x3584_S32768x3584
      (ix2 (⟨b.val * 8192 + s.val, by omega⟩ : Fin 32768) k) = x (ix3 b s k) := by
  refine Idealize.ShloMosaic.shapeCast_apply _ _ _ _ ?_
  rw [Shape.rowMajor_val_three, Shape.rowMajor_val_two]
  rfl

/-- Entry `q % 1024` of row `q / 1024` of the scales, for `q = 8192 b + s`, is the scale of the token at batch `b` and
    position `s`. -/
theorem scales_apply (xs : Vec Ideal S4x8192x1 .f32) (b : Fin 4) (s : Fin 8192) :
    shapeCast S32x1x1024 xs shapeCasts_S4x8192x1_S32x1x1024
      (ix3 (⟨(b.val * 8192 + s.val) / 1024, by omega⟩ : Fin 32) (0 : Fin 1)
        (⟨(b.val * 8192 + s.val) % 1024, Nat.mod_lt _ (by decide)⟩ : Fin 1024)) = xs (ix3 b s 0) := by
  refine Idealize.ShloMosaic.shapeCast_apply _ _ _ _ ?_
  rw [Shape.rowMajor_val_three, Shape.rowMajor_val_three]
  show (b.val * 8192 + s.val) * 1 + 0
    = ((b.val * 8192 + s.val) / 1024 * 1 + 0) * 1024 + (b.val * 8192 + s.val) % 1024
  omega

/-- The kernel's result is the reference's. -/
theorem result_eq (x : Vec Ideal S4x8192x3584 .fp8e4m3) (xs : Vec Ideal S4x8192x1 .f32)
    (w : Vec Ideal S3584x4736 .fp8e4m3) (ws : Vec Ideal S4736 .f32) :
    KernelValue.result x xs w ws = Cert.ReferenceIdeal.Gen.k0_pay1 (F := Ideal) x w xs ws := by
  funext j
  obtain ⟨b, s, n, rfl⟩ : ∃ (b : Fin 4) (s : Fin 8192) (n : Fin 4736), j = ix3 b s n := ⟨j 0, j 1, j 2, eq_ix3 j⟩
  rw [reference_pay_apply]
  unfold KernelValue.result
  have e : shapeCast S4x8192x4736 (KernelValue.G (shapeCast S32768x3584 x shapeCasts_S4x8192x3584_S32768x3584)
      (shapeCast S32x1x1024 xs shapeCasts_S4x8192x1_S32x1x1024) w ws) shapeCasts_S32768x4736_S4x8192x4736 (ix3 b s n)
      = KernelValue.G (shapeCast S32768x3584 x shapeCasts_S4x8192x3584_S32768x3584)
      (shapeCast S32x1x1024 xs shapeCasts_S4x8192x1_S32x1x1024) w ws
        (ix2 (⟨b.val * 8192 + s.val, by omega⟩ : Fin 32768) n) := by
    refine Idealize.ShloMosaic.shapeCast_apply _ _ _ _ ?_
    rw [Shape.rowMajor_val_three, Shape.rowMajor_val_two]
    rfl
  rw [e]
  exact congrArg (fun v => v * ws (ix1 n)) (congrArg₂ (fun u v => u * v)
    (Finset.sum_congr rfl fun k _ => congrArg (fun u => u * w (ix2 k n)) (tokens_apply x b s k)) (scales_apply xs b s))

end Cert.Proof

end
-- ==== Proof.lean ====
module

public import proofs.«01_k».proof.Defs
public import proofs.«01_k».proof.Proof.Gen.ReferenceIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- From memories that agree on the four arguments the kernel and the reference both run, with one result. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => KernelValue.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), KernelValue.run m g, ?_⟩
  refine (θ_run Cert.ReferenceIdeal.defs _ _).mono (fun r h c => ?_) (Cert.ReferenceIdeal.Value.run (F := Ideal) m' g')
  obtain ⟨hv, hrest⟩ := h c
  refine ⟨hv.trans ?_, hrest⟩
  rw [(hargs c).1, (hargs c).2.1, (hargs c).2.2.1, (hargs c).2.2.2]
  exact (result_eq _ _ _ _).symm

/-- The whole certificate: the three programs run and leave their arguments, and the two values agree. -/
theorem claim : Cert.Claim :=
  ⟨Cert.Kernel.Gen.facts, Cert.KernelIdeal.Gen.facts, Cert.ReferenceIdeal.Gen.facts,
    fun m g _ => Cert.Kernel.Gen.frame m g,
    fun m g _ => Cert.KernelIdeal.Gen.frame m g,
    fun m g _ => Cert.ReferenceIdeal.Gen.frame m g,
    trivial, algebraic⟩

end Cert.Proof

end
